-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_pack [hPre_labels_pack : Cert.Pre_labels_pack.Facts] (m : (ℓ : Loc Cert.KernelIdeal.nD Cert.KernelIdeal.τ Cert.KernelIdeal.sig) → Buf (Elt Ideal) ℓ) : Prop :=
  ∀ c : Dev Cert.KernelIdeal.nD,
    (Cert.Pre_labels_pack.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_pack [hPre_labels_pack : Cert.Pre_labels_pack.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_pack.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_pack [hKernelIdeal : Cert.KernelIdeal.Facts] [hPre_labels_pack : Cert.Pre_labels_pack.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_pack m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_pack [hReferenceIdeal : Cert.ReferenceIdeal.Facts] [hPre_labels_pack : Cert.Pre_labels_pack.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_pack m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_pack [hKernelIdeal : Cert.KernelIdeal.Facts] [hReferenceIdeal : Cert.ReferenceIdeal.Facts] [hPre_labels_pack : Cert.Pre_labels_pack.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_pack m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_pack : Cert.Pre_labels_pack.Facts),
    quiescent_Kernel (hKernel := hKernel)
    ∧ quiescent_KernelIdeal (hKernelIdeal := hKernelIdeal)
    ∧ quiescent_KernelIdeal_pre_labels_pack (hKernelIdeal := hKernelIdeal) (hPre_labels_pack := hPre_labels_pack)
    ∧ quiescent_ReferenceIdeal (hReferenceIdeal := hReferenceIdeal)
    ∧ quiescent_ReferenceIdeal_pre_labels_pack (hReferenceIdeal := hReferenceIdeal) (hPre_labels_pack := hPre_labels_pack)
    ∧ preserves_Kernel_KernelIdeal
    ∧ algebraic_KernelIdeal_ReferenceIdeal_pre_labels_pack (hKernelIdeal := hKernelIdeal) (hReferenceIdeal := hReferenceIdeal) (hPre_labels_pack := hPre_labels_pack)
-- ==== Pre_labels_pack.lean ====
abbrev S4096x128 : Shape := ⟨2, ![4096, 128]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x128 .f32) (main_arg1 : IVec S4096 32) (main_arg2 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 64#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 32 := constantI S_ 32 0#32
  let main_v5 : IVec S4096 32 := broadcastInDim S4096 ![] bcast_S_S4096 main_c_1
  let main_v6 : IVec S4096 1 := cmpi .sge main_arg2 main_v5
  let main_c_2 : IVec S_ 32 := constantI S_ 32 33554432#32
  let main_v7 : IVec S4096 32 := broadcastInDim S4096 ![] bcast_S_S4096 main_c_2
  let main_v8 : IVec S4096 1 := cmpi .slt main_arg2 main_v7
  let main_v9 : IVec S4096 1 := andi main_v6 main_v8
  let main_v10 : IVec S4096 1 := andi main_v4 main_v9
  let main_c_3 : IVec S_ 1 := constantI S_ 1 1#1
  let main_v11 : IVec S_ 1 := (fun x v => Host.reduce IntOp.andi x v reducesTo_S4096_S_d0 h_S_) main_v10 main_c_3
  main_v11
-- ==== Kernel.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x128 : Shape := ⟨2, ![2048, 128]⟩
abbrev S2048x1 : Shape := ⟨2, ![2048, 1]⟩
abbrev S1x2048 : Shape := ⟨2, ![1, 2048]⟩
abbrev S2048x2048 : Shape := ⟨2, ![2048, 2048]⟩
abbrev S128x128 : Shape := ⟨2, ![128, 128]⟩

abbrev nBuf : Space → Nat
  | .hbm => 30
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i1⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S1x4096, .i32⟩
  | .hbm, ⟨29, _⟩ => ⟨S4096x4096, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x1, .i32⟩
  | .local _ .vmem, ⟨5, _⟩ => ⟨S2048x1, .i32⟩
  | .local _ .vmem, ⟨6, _⟩ => ⟨S1x2048, .i32⟩
  | .local _ .vmem, ⟨7, _⟩ => ⟨S1x2048, .i32⟩
  | .local _ .vmem, ⟨8, _⟩ => ⟨S2048x2048, .f32⟩
  | .local _ .vmem, ⟨9, _⟩ => ⟨S2048x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S128x4096 : Shape := ⟨2, ![128, 4096]⟩
abbrev S4096x2 : Shape := ⟨2, ![4096, 2]⟩

abbrev nBuf : Space → Nat
  | .hbm => 58
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S4096x1, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i1⟩
  | .hbm, ⟨24, _⟩ => ⟨S4096, .i1⟩
  | .hbm, ⟨25, _⟩ => ⟨S4096x4096, .i1⟩
  | .hbm, ⟨26, _⟩ => ⟨S4096x1, .i1⟩
  | .hbm, ⟨27, _⟩ => ⟨S4096x4096, .i1⟩
  | .hbm, ⟨28, _⟩ => ⟨S4096x4096, .i1⟩
  | .hbm, ⟨29, _⟩ => ⟨S1x4096, .i1⟩
  | .hbm, ⟨30, _⟩ => ⟨S4096x4096, .i1⟩
  | .hbm, ⟨31, _⟩ => ⟨S4096x4096, .i1⟩
  | .hbm, ⟨32, _⟩ => ⟨S128x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x1, .i32⟩
  | .hbm, ⟨54, _⟩ => ⟨S4096x2, .i32⟩
  | .hbm, ⟨55, _⟩ => ⟨S_, .f32⟩
  | .hbm, ⟨56, _⟩ => ⟨S4096, .f32⟩
  | .hbm, ⟨57, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Proof.Spec.lean ====
/-
  What both programs compute, stated once in plain terms: the Gram matrix of the rows of `z`, kept where the two samples
  share batch and class and neither class is excluded, with the diagonal at zero. And the one fact about words that the
  kernel's packed labels rest on: under the precondition's ranges, a row key and a column key are equal exactly there.
-/
module

public import Idealize.ShloMosaic.Lib.Affine
public import Idealize.ShloMosaic.Lib.Pointwise
public import Idealize.ShloMosaic.PureOps.Ideal

@[expose] public section

noncomputable section

namespace Cert.Proof.Spec

open Idealize.ShloMosaic

/-- A class that takes part: none of the three excluded ones. -/
def Kept (c : BitVec 32) : Prop := ¬ ((c = 24#32 ∨ c = 25#32) ∨ c = 26#32)

/-- The condition on two samples, given by batch and class: same batch, same class, both classes kept. -/
def Paired (b c b' c' : BitVec 32) : Prop := ((b = b' ∧ c = c') ∧ Kept c) ∧ Kept c'

instance (b c b' c' : BitVec 32) : Decidable (Paired b c b' c') := by unfold Paired Kept; infer_instance

/-- The masked Gram matrix at row `r` and column `s`. -/
def gram (z : (⟨2, ![4096, 128]⟩ : Shape).Idx → EReal) (cls bat : (⟨1, ![4096]⟩ : Shape).Idx → BitVec 32) (r s : Fin 4096) : EReal :=
  if r.val = s.val then 0
  else if Paired (bat (ix1 r)) (cls (ix1 r)) (bat (ix1 s)) (cls (ix1 s)) then ∑ k : Fin 128, z (ix2 r k) * z (ix2 s k)
  else 0

/-- The mask word of a class, as both programs compute it. -/
def keptBit (c : BitVec 32) : BitVec 1 :=
  ~~~ IntOp.ori (IntOp.ori (IntOp.cmpi .eq c 24#32) (IntOp.cmpi .eq c 25#32)) (IntOp.cmpi .eq c 26#32)

/-- The mask word is set exactly at the kept classes. -/
theorem keptBit_iff (c : BitVec 32) : keptBit c = 1#1 ↔ Kept c := by
  unfold keptBit Kept
  rw [IntOp.not_eq_one, IntOp.ori_eq_one, IntOp.ori_eq_one, IntOp.cmpi_eq, IntOp.cmpi_eq, IntOp.cmpi_eq]

/-- A sample's packed label: `64 · batch + class`, or the given sentinel where the class is excluded. -/
def key (sentinel b c : BitVec 32) : BitVec 32 :=
  if keptBit c = 1#1 then IntOp.addi (IntOp.muli b 64#32) c else sentinel

/-- The ranges of the precondition `labels_pack`. -/
def InRange (b c : BitVec 32) : Prop := (0 ≤ c.toInt ∧ c.toInt < 64) ∧ 0 ≤ b.toInt ∧ b.toInt < 33554432

/-- A word that reads, signed, as a number from 0 up to a bound reads unsigned as one below it. -/
theorem toNat_lt_of_toInt {x : BitVec 32} {n : ℕ} (h0 : 0 ≤ x.toInt) (h : x.toInt < n) : x.toNat < n := by
  have e := BitVec.toInt_eq_toNat_cond x
  have hx := x.isLt
  split_ifs at e <;> omega

/-- In range, packing does not wrap. -/
theorem toNat_packed {b c : BitVec 32} (h : InRange b c) : (IntOp.addi (IntOp.muli b 64#32) c).toNat = b.toNat * 64 + c.toNat := by
  have hc := toNat_lt_of_toInt (n := 64) h.1.1 h.1.2
  have hb := toNat_lt_of_toInt (n := 33554432) h.2.1 h.2.2
  show (b * 64#32 + c).toNat = _
  rw [BitVec.toNat_add, BitVec.toNat_mul, show (64#32 : BitVec 32).toNat = 64 from rfl]
  omega

/-- In range, a row key (sentinel -1) equals a column key (sentinel -2) exactly when the two samples are paired. -/
theorem key_eq_iff {b c b' c' : BitVec 32} (h : InRange b c) (h' : InRange b' c') :
    key 4294967295#32 b c = key 4294967294#32 b' c' ↔ Paired b c b' c' := by
  have hc := toNat_lt_of_toInt (n := 64) h.1.1 h.1.2
  have hb := toNat_lt_of_toInt (n := 33554432) h.2.1 h.2.2
  have hc' := toNat_lt_of_toInt (n := 64) h'.1.1 h'.1.2
  have hb' := toNat_lt_of_toInt (n := 33554432) h'.2.1 h'.2.2
  have p := toNat_packed h
  have p' := toNat_packed h'
  have n1 : (4294967295#32 : BitVec 32).toNat = 4294967295 := rfl
  have n2 : (4294967294#32 : BitVec 32).toNat = 4294967294 := rfl
  have i1 := keptBit_iff c
  have i2 := keptBit_iff c'
  unfold key Paired
  rw [← BitVec.toNat_inj (x := b), ← BitVec.toNat_inj (x := c), ← i1, ← i2, ← BitVec.toNat_inj]
  by_cases k1 : keptBit c = 1#1 <;> by_cases k2 : keptBit c' = 1#1
  · rw [if_pos k1, if_pos k2]
    simp only [k1, k2, and_true]
    omega
  · rw [if_pos k1, if_neg k2]
    simp only [k2, and_false, iff_false]
    omega
  · rw [if_neg k1, if_pos k2]
    simp only [k1, and_false, false_and, iff_false]
    omega
  · rw [if_neg k1, if_neg k2]
    simp only [k2, and_false, iff_false]
    omega

end Cert.Proof.Spec
-- ==== Proof.Keys.lean ====
/-
  The packed labels that the host code hands to the kernel, read at a sample.
-/
module

public import proofs.«01_k».proof.Proof.Gen.KernelIdeal.Value
public import proofs.«01_k».proof.Proof.Spec
public import Idealize.ShloMosaic.Lib.Pipeline.ValueKit
public import Idealize.ShloMosaic.Lib.Claim
public import Idealize.ShloMosaic.Lib.Pointwise
public import Idealize.ShloMosaic.Lib.WritesUnit
public import Idealize.ShloMosaic.PureOps.Ideal

@[expose] public section

set_option maxRecDepth 16384

noncomputable section

namespace Cert.Proof.Keys

open Idealize.ShloMosaic Idealize.ShloMosaic.TcCoe Cert.KernelIdeal Cert.KernelIdeal.Gen

variable (m : (ℓ : Loc nD τ sig) → Buf (Elt Ideal) ℓ)

/-- The samples' class and batch words, as launched. -/
abbrev cls (c : Dev nD) : S4096.Idx → BitVec 32 := m ((c : Thread nD τ).loc main_arg1)
abbrev bat (c : Dev nD) : S4096.Idx → BitVec 32 := m ((c : Thread nD τ).loc main_arg2)

/-- What the two stretches of host code leave in the key arrays. -/
theorem row (c : Dev nD) (r : Fin 4096) : (V (F := Ideal) m c main_v13 : S4096x1.Idx → BitVec 32) (ix2 r 0)
    = Spec.key 4294967295#32 (bat m c (ix1 r)) (cls m c (ix1 r)) := by
  unfold V
  simp only [hostOps0, hostOps0_1, hostOps0_2, hostOps0_3, hostOps0_4, List.flatten_cons, List.flatten_nil, List.append_nil, List.cons_append,
    List.nil_append, StableHlo.TRef.ternary, StableHlo.TRef.unary, StableHlo.TRef.toBuf, StableHlo.TRef.ofBuf, cast_eq]
  after_results_simp
  pointwise
  rfl

/-- The column keys, laid out as one row. -/
theorem col (c : Dev nD) (r : Fin 4096) : (V (F := Ideal) m c main_v15 : S1x4096.Idx → BitVec 32) (ix2 0 r)
    = Spec.key 4294967294#32 (bat m c (ix1 r)) (cls m c (ix1 r)) := by
  unfold V
  simp only [hostOps0, hostOps0_1, hostOps0_2, hostOps0_3, hostOps0_4, List.flatten_cons, List.flatten_nil, List.append_nil, List.cons_append,
    List.nil_append, StableHlo.TRef.ternary, StableHlo.TRef.unary, StableHlo.TRef.toBuf, StableHlo.TRef.ofBuf, cast_eq]
  after_results_simp
  pointwise
  rfl

end Cert.Proof.Keys
-- ==== Proof.Block.lean ====
/-
  What one grid point leaves in its output tile: the masked products, with the diagonal wiped where the tile lies on it.
  The kernel wipes in sixteen square steps along the tile's diagonal; one lemma peels the last step off.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.PureOps.Ideal

@[expose] public section

set_option maxRecDepth 16384

noncomputable section

namespace Cert.Proof.Block

open Idealize.ShloMosaic Idealize.ShloMosaic.TcCoe Cert.KernelIdeal Cert.KernelIdeal.Gen

/-- What one tile holds after the body: the masked products `G`, with the tile's own diagonal wiped on the tiles
whose row and column number agree. -/
def blockOut (i : grid0.Coords) (G : S2048x2048.Idx → EReal) : S2048x2048.Idx → EReal := fun y =>
  if (i 0).val = (i 1).val ∧ (y 0).val = (y 1).val then 0 else G y

/-- Two small numbers are equal as 32-bit words exactly when they are equal. -/
theorem word_eq_iff (a b : ℕ) (ha : a < 2 ^ 32) (hb : b < 2 ^ 32) :
    IntOp.cmpi .eq (BitVec.ofNat 32 a) (BitVec.ofNat 32 b) = 1#1 ↔ a = b := by
  rw [IntOp.cmpi_eq, WordCmp.ofNat_eq_ofNat_iff ha hb]

/-- One wiped sub-block, at offset `o` on both axes, is the sub-block of `blockOut`. -/
theorem wiped_eq (i : grid0.Coords) (G : S2048x2048.Idx → EReal) (o : ℕ)
    (inb : ∀ a, (![o, o] : Fin 2 → ℕ) a + (![128, 128] : Fin 2 → ℕ) a ≤ S2048x2048.size a)
    (hs : S128x128.ShapeCasts S128x128) (x : S128x128.Idx) :
    (select (andi k0_pay2 (broadcast S128x128 (Scalar.cmpi .eq (BitVec.ofNat 32 (i 0).val) (BitVec.ofNat 32 (i 1).val))))
      (broadcast S128x128 (Scalar.ofBits (F := Ideal) .f32 0x00000000#32))
      (shapeCast S128x128 (fun z : S128x128.Idx => View.ld (Val := Elt Ideal) (e' := .f32) G (Rect.unit (s := S2048x2048) ![o, o] ![128, 128] inb) z) hs) : FVec Ideal S128x128 .f32) x
      = blockOut i G ((Rect.unit (s := S2048x2048) ![o, o] ![128, 128] inb).emb x) := by
  idx_vars x
  have h0 : o + 128 ≤ 2048 := inb 0
  have e : (Rect.unit (s := S2048x2048) ![o, o] ![128, 128] inb).emb (ix2 x0 x1) = ix2 ⟨o + x0.val, by omega⟩ ⟨o + x1.val, by omega⟩ :=
    Rect.emb_eq_of_coords _ _ _ (Fin.forall_fin_two.2
      ⟨(by show o + x0.val = o + 1 * x0.val; omega), (by show o + x1.val = o + 1 * x1.val; omega)⟩)
  have hi0 : (i 0).val < 2 := (i 0).isLt
  have hi1 : (i 1).val < 2 := (i 1).isLt
  rw [e]
  unfold blockOut
  pointwise [k0_pay2]
  refine if_congr ?_ rfl rfl
  refine IntOp.andi_eq_one.trans (Iff.trans (and_congr (word_eq_iff x0.val x1.val (by omega) (by omega)) (word_eq_iff (i 0).val (i 1).val (by omega) (by omega))) ?_)
  show _ ↔ _ ∧ o + x0.val = o + x1.val
  omega

/-- Peeling the newest store off a list: where its payload agrees with `H`, only the indices outside it are left.
Of a diagonal index that lies below the store's end, this leaves the one below its beginning. -/
theorem peel (H : S2048x2048.Idx → EReal) (o : ℕ) (inb : ∀ a, (![o, o] : Fin 2 → ℕ) a + (![128, 128] : Fin 2 → ℕ) a ≤ S2048x2048.size a)
    (w : (Rect.unit (s := S2048x2048) ![o, o] ![128, 128] inb).shape.Idx → Elt Ideal .f32) (L : List (View.Piece (Elt Ideal) S2048x2048 .f32))
    (y : S2048x2048.Idx) (hw : ∀ x, w x = H ((Rect.unit (s := S2048x2048) ![o, o] ![128, 128] inb).emb x))
    (hb : (y 0).val = (y 1).val → (y 0).val < o + 128) (hL : ((y 0).val = (y 1).val → (y 0).val < o) → View.canon L y = H y) :
    View.canon (⟨Rect.unit ![o, o] ![128, 128] inb, w⟩ :: L) y = H y := by
  by_cases h : o ≤ (y 0).val ∧ (y 0).val < o + 128 ∧ o ≤ (y 1).val ∧ (y 1).val < o + 128
  · obtain ⟨x, hx⟩ : ∃ x, (Rect.unit (s := S2048x2048) ![o, o] ![128, 128] inb).emb x = y :=
      ⟨Rect.unitLocal (off := ![o, o]) (size := ![128, 128]) y (Fin.forall_fin_two.2 ⟨⟨h.1, h.2.1⟩, h.2.2⟩),
        Rect.emb_eq_of_coords _ _ _ (Fin.forall_fin_two.2
          ⟨(by show (y 0).val = o + 1 * ((y 0).val - o); omega), (by show (y 1).val = o + 1 * ((y 1).val - o); omega)⟩)⟩
    rw [← hx, View.canon_cons_emb, hw]
  · rw [View.canon_cons_of_not_mem _ _ fun hy => h (by
      have hm := Rect.mem_set_unit.1 (show y ∈ (Rect.unit (s := S2048x2048) ![o, o] ![128, 128] inb).set from hy)
      exact ⟨(hm 0).1, (hm 0).2, hm 1⟩)]
    exact hL fun e => by have := hb e; omega

end Cert.Proof.Block
-- ==== Proof.BlockRun.lean ====
/-
  The kernel body, run at a grid point, leaves the tile that the module Block describes.
-/
module

public import proofs.«01_k».proof.Proof.Block
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.PureOps.Ideal

@[expose] public section

set_option maxRecDepth 16384

noncomputable section

namespace Cert.Proof.Block

open Idealize.ShloMosaic Idealize.ShloMosaic.TcCoe Cert.KernelIdeal Cert.KernelIdeal.Gen

variable (m : (ℓ : Loc nD τ sig) → Buf (Elt Ideal) ℓ)

/-- The tile that point `t` leaves: the products masked by key equality, its diagonal wiped. -/
theorem out_eq (c : Dev nD) (t : Fin cfg0.N) : outsAt0 (F := Ideal) m c t =
    blockOut (grid0.coords t) (k0_pay1 (F := Ideal) (iblk m c 0 t) (iblk m c 1 t) (iblk m c 2 t) (iblk m c 3 t)) := by
  unfold outsAt0
  frame_open
  simp (disch := decide) only [↓ View.readCov_skip, ↓ View.readCov_cons_toLoadRect, ↓ View.readCov_fill]
  frame_out
  generalize k0_pay1 (F := Ideal) (iblk m c 0 t) (iblk m c 1 t) (iblk m c 2 t) (iblk m c 3 t) = G
  generalize grid0.coords t = i
  funext y
  have hb : (y 0).val = (y 1).val → (y 0).val < 1920 + 128 := fun _ => (y 0).isLt
  iterate 16
    refine peel _ _ _ _ _ y (fun x => ?_) hb fun hb => ?_
    · exact wiped_eq i G _ _ _ x
  refine (congrFun (View.canon_cons_unit_lit (Val := Elt Ideal) (e := .f32) (S := S2048x2048) (off := ![0, 0])
    inb_S2048x2048_S2048x2048_0_0 G [] (Fin.forall_fin_two.2 ⟨rfl, rfl⟩)) y).trans ?_
  exact (if_neg fun hd => Nat.not_lt_zero _ (hb hd.2)).symm

end Cert.Proof.Block
-- ==== Proof.Array.lean ====
/-
  What the output array holds after the kernel's run: tile by tile, the masked Gram matrix.
-/
module

public import proofs.«01_k».proof.Proof.Gen.KernelIdeal.Value
public import proofs.«01_k».proof.Proof.Keys
public import proofs.«01_k».proof.Proof.BlockRun
public import Idealize.ShloMosaic.Lib.Pipeline.ValueKit
public import Idealize.ShloMosaic.Lib.Claim
public import Idealize.ShloMosaic.Lib.Pointwise
public import Idealize.ShloMosaic.Lib.WritesUnit
public import Idealize.ShloMosaic.PureOps.Ideal

@[expose] public section

set_option maxRecDepth 16384

noncomputable section

namespace Cert.Proof.Array

open Idealize.ShloMosaic Idealize.ShloMosaic.TcCoe Cert.KernelIdeal Cert.KernelIdeal.Gen

variable (m : (ℓ : Loc nD τ sig) → Buf (Elt Ideal) ℓ)

/-- The samples' features, as launched. -/
abbrev feat (c : Dev nD) : S4096x128.Idx → EReal := m ((c : Thread nD τ).loc main_arg0)

/-- A tile of masked products at an index: the product of a row of each block where the two keys agree. -/
theorem pay_apply (a b : Vec Ideal S2048x128 .f32) (kr : Vec Ideal S2048x1 .i32) (kc : Vec Ideal S1x2048 .i32) (r s : Fin 2048) :
    k0_pay1 (F := Ideal) a b kr kc (ix2 r s)
      = if (kr (ix2 r 0) : BitVec 32) = kc (ix2 0 s) then ∑ k : Fin 128, (a (ix2 r k) : EReal) * b (ix2 s k) else 0 := by
  pointwise [k0_pay1]
  exact if_congr IntOp.cmpi_eq rfl rfl

/-- Which block each window shows at a point, by the point's tile row and tile column. -/
theorem idx : ∀ t : Fin grid0.N, win0_0.index t = ![(grid0.coords t 0).val, 0] ∧ win0_1.index t = ![(grid0.coords t 1).val, 0]
    ∧ win0_2.index t = ![(grid0.coords t 0).val, 0] ∧ win0_3.index t = ![0, (grid0.coords t 1).val]
    ∧ win0_4.index t = ![(grid0.coords t 0).val, (grid0.coords t 1).val] := by decide +kernel

section Blocks

variable (c : Dev nD) (t : Fin cfg0.N) (r : Fin 2048) (R : Fin 4096)

/-- A row of the first block of features is a row of the tile row. -/
theorem rows_apply (k : Fin 128) (hR : R.val = (grid0.coords t 0).val * 2048 + r.val) :
    (iblk m c 0 t : S2048x128.Idx → EReal) (ix2 r k) = feat m c (ix2 R k) := by
  blk_ext [iblk, V_main_arg0, idx t]

/-- A row of the second block of features is a row of the tile column. -/
theorem cols_apply (k : Fin 128) (hR : R.val = (grid0.coords t 1).val * 2048 + r.val) :
    (iblk m c 1 t : S2048x128.Idx → EReal) (ix2 r k) = feat m c (ix2 R k) := by
  blk_ext [iblk, V_main_arg0, idx t]

/-- A row key of the block. -/
theorem rowKey_apply (hR : R.val = (grid0.coords t 0).val * 2048 + r.val) :
    (iblk m c 2 t : S2048x1.Idx → BitVec 32) (ix2 r 0) = Spec.key 4294967295#32 (Keys.bat m c (ix1 R)) (Keys.cls m c (ix1 R)) := by
  rw [← Keys.row]
  blk_ext [iblk, idx t]

/-- A column key of the block. -/
theorem colKey_apply (hR : R.val = (grid0.coords t 1).val * 2048 + r.val) :
    (iblk m c 3 t : S1x2048.Idx → BitVec 32) (ix2 0 r) = Spec.key 4294967294#32 (Keys.bat m c (ix1 R)) (Keys.cls m c (ix1 R)) := by
  rw [← Keys.col]
  blk_ext [iblk, idx t]

end Blocks

/-- One element of a point's tile is the masked Gram matrix at its place in the array. -/
theorem tile_apply (c : Dev nD) (h : ∀ r, Spec.InRange (Keys.bat m c (ix1 r)) (Keys.cls m c (ix1 r))) (t : Fin cfg0.N) (r s : Fin 2048)
    (R S : Fin 4096) (hR : R.val = (grid0.coords t 0).val * 2048 + r.val) (hS : S.val = (grid0.coords t 1).val * 2048 + s.val) :
    Block.blockOut (grid0.coords t) (k0_pay1 (F := Ideal) (iblk m c 0 t) (iblk m c 1 t) (iblk m c 2 t) (iblk m c 3 t)) (ix2 r s)
      = Spec.gram (feat m c) (Keys.cls m c) (Keys.bat m c) R S := by
  have hr := r.isLt
  have hs := s.isLt
  have hd : ((grid0.coords t 0).val = (grid0.coords t 1).val ∧ r.val = s.val) ↔ R.val = S.val := by omega
  unfold Block.blockOut Spec.gram
  refine if_congr hd rfl ((pay_apply _ _ _ _ r s).trans ?_)
  rw [rowKey_apply m c t r R hR, colKey_apply m c t s S hS]
  refine if_congr (Spec.key_eq_iff (h R) (h S)) (Finset.sum_congr rfl fun k _ => ?_) rfl
  rw [rows_apply m c t r R k hR, cols_apply m c t s S k hS]

/-- The array after the run: the masked Gram matrix. -/
theorem final (c : Dev nD) (h : ∀ r, Spec.InRange (Keys.bat m c (ix1 r)) (Keys.cls m c (ix1 r))) :
    (dats (F := Ideal) m 0 c).arrAt 4 cfg0.N = fun y : S4096x4096.Idx => Spec.gram (feat m c) (Keys.cls m c) (Keys.bat m c) (y 0) (y 1) := by
  refine (dats (F := Ideal) m 0 c).arrAt_eq_of_covers 4 _ (by decide +kernel) fun t hf y => ?_
  blk_simp
  rw [after0_4, Block.out_eq]
  have e0 : ((win0_4.blk t).view.emb y 0).val = (grid0.coords t 0).val * 2048 + (y 0).val := by blk_simp [idx t]
  have e1 : ((win0_4.blk t).view.emb y 1).val = (grid0.coords t 1).val * 2048 + (y 1).val := by blk_simp [idx t]
  idx_vars y
  exact tile_apply m c h t y0 y1 _ _ e0 e1

end Cert.Proof.Array
-- ==== Proof.Labels.lean ====
/-
  What the precondition says of each sample: its class and its batch number lie in the ranges the packing needs.
-/
module

public import proofs.«01_k».proof.Defs
public import proofs.«01_k».proof.Proof.Gen.Pre_labels_pack
public import Idealize.ShloMosaic.Lib.ReduceAll
public import Idealize.ShloMosaic.Lib.Affine
public import proofs.«01_k».proof.Proof.Spec

@[expose] public section

set_option maxRecDepth 16384

noncomputable section

namespace Cert.Proof.Labels

open Idealize.ShloMosaic Cert.Pre_labels_pack

/-- What the precondition says of one sample: its class and batch numbers are small and not negative. -/
theorem decode (z : FVec Ideal S4096x128 .f32) (cls bat : IVec S4096 32) (h : fn (F := Ideal) z cls bat = fun _ => 1#1) (r : Fin 4096) :
    Spec.InRange (bat (ix1 r)) (cls (ix1 r)) := by
  have h0 := congrFun h ix0
  dsimp only [fn] at h0
  have h1 := Host.reduce_andi_all _ _ _ _ _ h0 (ix1 r)
  pointwise at h1
  simp only [IntOp.andi_eq_one, IntOp.cmpi_sge, IntOp.cmpi_slt] at h1
  exact h1

end Cert.Proof.Labels
-- ==== Proof.Scatter.lean ====
/-
  The reference clears the diagonal by a scatter of zeros at the index pairs `(k, k)`. Read here: where an update of that
  scatter lands, and so what the scatter leaves at an index when each pair of index words is `(k, k)`.
-/
module

public import proofs.«01_k».proof.Proof.Gen.ReferenceIdeal.Run
public import Idealize.ShloMosaic.Lib.Routing.OpsSet
public import Idealize.ShloMosaic.Lib.Pointwise

@[expose] public section

set_option maxRecDepth 16384

noncomputable section

namespace Cert.Proof.Scatter

open Idealize.ShloMosaic Cert.ReferenceIdeal Cert.ReferenceIdeal.Gen

/-- The scatter's shape record. -/
abbrev dims : ScatterDims S4096x4096 S4096x2 S4096 := scatter_S4096x4096_S4096x2_S4096_n_01_01_1

/-- Update `k` reads its two index words from row `k` of the index array. -/
theorem start_eq (idx : IVec S4096x2 32) (k : Fin 4096) (q : Fin 2) : dims.start (ix1 k) idx q = (idx (ix2 k q)).toInt := by
  have hm : q ∈ dims.scatterDimsToOperandDims := by
    show q ∈ ([0, 1] : List (Fin 2))
    fin_cases q <;> decide
  unfold ScatterDims.start
  rw [dif_pos hm]
  refine congrArg (fun j => (idx j).toInt) (funext fun b => Fin.ext ?_)
  match b with
  | ⟨0, _⟩ => rfl
  | ⟨1, _⟩ => fin_cases q <;> rfl

/-- Update `k` lands at `(r, s)` exactly when its two index words, read signed, are `r` and `s`. -/
theorem lands (idx : IVec S4096x2 32) (k r s : Fin 4096) :
    dims.resultIdx? (ix1 k) idx = some (ix2 r s) ↔ (idx (ix2 k 0)).toInt = r.val ∧ (idx (ix2 k 1)).toInt = s.val := by
  have w0 : dims.window (ix1 k) 0 = 0 := rfl
  have w1 : dims.window (ix1 k) 1 = 0 := rfl
  rw [Routing.resultIdx?_eq_some]
  refine Fin.forall_fin_two.trans ?_
  rw [start_eq, start_eq, w0, w1]
  show _ + 0 = (r.val : Int) ∧ _ + 0 = (s.val : Int) ↔ _
  rw [Int.add_zero, Int.add_zero]

/-- Scattering a constant at the pairs `(k, k)` puts it on the diagonal and leaves the rest. -/
theorem diagonal {α : Type} (x : S4096x4096.Idx → α) (idx : IVec S4096x2 32) (upd : S4096.Idx → α) (v : α)
    (hidx : ∀ (k : Fin 4096) (q : Fin 2), (idx (ix2 k q)).toInt = k.val) (hupd : ∀ k, upd k = v) (r s : Fin 4096) :
    Host.scatter dims (fun _ b => b) x idx upd (ix2 r s) = if r.val = s.val then v else x (ix2 r s) := by
  by_cases h : r.val = s.val
  · rw [if_pos h]
    refine Routing.scatter_set_hit dims x idx upd _ v (fun k _ => hupd k) (ix1 r) ((lands idx r r s).2 ?_)
    rw [hidx, hidx, h]
    exact ⟨rfl, rfl⟩
  · rw [if_neg h]
    refine Routing.scatter_set_miss dims x idx upd _ fun k hk => h ?_
    idx_vars k
    have e := (lands idx k0 r s).1 hk
    rw [hidx, hidx] at e
    omega

end Cert.Proof.Scatter
-- ==== Proof.Reference.lean ====
/-
  What the reference computes, read at an index: the masked product of two rows, and the scatter of zeros over the diagonal.
-/
module

public import proofs.«01_k».proof.Proof.Scatter
public import proofs.«01_k».proof.Proof.Spec
public import Idealize.ShloMosaic.Lib.WordCmp

@[expose] public section

set_option maxRecDepth 16384

noncomputable section

namespace Cert.Proof.Reference

open Idealize.ShloMosaic Idealize.ShloMosaic.TcCoe Idealize.SL.Sem Cert.ReferenceIdeal Cert.ReferenceIdeal.Gen

/-- The wrap of a negative index leaves a sample's own number as it is. -/
theorem wrap_eq (k : Fin 4096) (a : BitVec 32) :
    (Scalar.select (IntOp.cmpi .slt (BitVec.ofNat 32 k.val) 0#32) a (BitVec.ofNat 32 k.val)).toInt = k.val := by
  have hk := k.isLt
  have e : (BitVec.ofNat 32 k.val).toInt = k.val := WordCmp.toInt_ofNat_of_lt (by omega)
  have hn : ¬ IntOp.cmpi .slt (BitVec.ofNat 32 k.val) 0#32 = 1#1 := by
    rw [IntOp.cmpi_slt, e]
    show ¬ (k.val : Int) < 0
    omega
  exact (congrArg BitVec.toInt (if_neg hn)).trans e

/-- Every run of the reference ends with the masked Gram matrix of its arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = (fun y : S4096x4096.Idx =>
          Spec.gram (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun y => ?_), (h c).2⟩) (Value.run (F := Ideal) m ρ)
  generalize m ((c.tc : Thread nD τ).loc main_arg0) = z
  generalize m ((c.tc : Thread nD τ).loc main_arg1) = cls
  generalize m ((c.tc : Thread nD τ).loc main_arg2) = bat
  clear h
  obtain ⟨i, j, rfl⟩ : ∃ (i j : Fin 4096), y = ix2 i j := ⟨y 0, y 1, eq_ix2 y⟩
  refine (Scatter.diagonal _ _ _ 0 (fun k q => ?_) (fun k => ?_) i j).trans ?_
  · fin_cases q
    · pointwise
      exact wrap_eq k _
    · pointwise
      exact wrap_eq k _
  · pointwise
  · pointwise
    refine if_congr Iff.rfl rfl (if_congr ?_ rfl rfl)
    exact IntOp.andi_eq_one.trans (and_congr (IntOp.andi_eq_one.trans (and_congr
      (IntOp.andi_eq_one.trans (and_congr IntOp.cmpi_eq IntOp.cmpi_eq)) (Spec.keptBit_iff _))) (Spec.keptBit_iff _))

end Cert.Proof.Reference
-- ==== Proof.Equation.lean ====
/-
  The equation: kernel and reference, run on the same arguments with labels in range, both end with the masked Gram matrix.
-/
module

public import proofs.«01_k».proof.Defs
public import proofs.«01_k».proof.Proof.Array
public import proofs.«01_k».proof.Proof.Labels
public import proofs.«01_k».proof.Proof.Reference
public import Idealize.ShloMosaic.Lib.Quiescent

@[expose] public section

noncomputable section

namespace Cert.Proof.Equation

open Idealize.ShloMosaic Idealize.ShloMosaic.TcCoe Idealize.SL.Sem

/-- The reference returns, its arguments unchanged and every semaphore at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Reference.run m ρ)

/-- The two programs end with equal results. -/
theorem equal : Cert.algebraic_KernelIdeal_ReferenceIdeal_pre_labels_pack := by
  intro m g m' g' hpre hargs
  refine ⟨fun c => fun y : Cert.KernelIdeal.S4096x4096.Idx =>
    Spec.gram (Array.feat m c) (Keys.cls m c) (Keys.bat m c) (y 0) (y 1), ?_, ?_⟩
  · exact (θ_run Cert.KernelIdeal.defs _ _).mono
      (fun r h c => ⟨(h c).1.trans (Array.final m c (Labels.decode _ _ _ (hpre c))), (h c).2⟩)
      (Cert.KernelIdeal.Value.run_blocks m g)
  · refine (θ_run Cert.ReferenceIdeal.defs _ _).mono (fun r h c => ⟨(h c).1.trans ?_, (h c).2⟩) (Reference.run m' g')
    rw [(hargs c).1, (hargs c).2.1, (hargs c).2.2]

end Cert.Proof.Equation
-- ==== Proof.lean ====
module

public import proofs.«01_k».proof.Defs
public import proofs.«01_k».proof.Proof.Equation
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_pack
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_labels_pack.Gen.facts,
  fun m ρ _ => Cert.Kernel.Gen.frame m ρ,
  fun m ρ _ => Cert.KernelIdeal.Gen.frame m ρ,
  fun m ρ _ => Cert.KernelIdeal.Gen.frame m ρ,
  Equation.reference_frame,
  fun m ρ _ => Equation.reference_frame m ρ trivial,
  trivial,
  Equation.equal⟩

end Cert.Proof

end
